-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S4096 : Shape := ⟨1, ![4096]⟩
abbrev S4096x14336 : Shape := ⟨2, ![4096, 14336]⟩
abbrev S14336 : Shape := ⟨1, ![14336]⟩
abbrev S16384x4096 : Shape := ⟨2, ![16384, 4096]⟩
abbrev S1x4096 : Shape := ⟨2, ![1, 4096]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩
abbrev S1x14336 : Shape := ⟨2, ![1, 14336]⟩
abbrev S16384x14336 : Shape := ⟨2, ![16384, 14336]⟩
abbrev S1024x4096 : Shape := ⟨2, ![1024, 4096]⟩
abbrev S4096x1024 : Shape := ⟨2, ![4096, 1024]⟩
abbrev S1024x1 : Shape := ⟨2, ![1024, 1]⟩
abbrev S1x1024 : Shape := ⟨2, ![1, 1024]⟩
abbrev S1024x1024 : Shape := ⟨2, ![1024, 1024]⟩
abbrev S8x2048x14336 : Shape := ⟨3, ![8, 2048, 14336]⟩
abbrev S8x2048 : Shape := ⟨2, ![8, 2048]⟩

abbrev nBuf : Space → Nat
  | .hbm => 15
  | .vmem => 18
  | .smem => 0
  | _ => 0

abbrev bufTy : (tb : Table) → Fin (tcTables nBuf tb) → BufTy
  | .hbm, ⟨0, _⟩ => ⟨S8x2048x4096, .bf16⟩
  | .hbm, ⟨1, _⟩ => ⟨S4096, .f32⟩
  | .hbm, ⟨2, _⟩ => ⟨S4096x14336, .i8⟩
  | .hbm, ⟨3, _⟩ => ⟨S14336, .f32⟩
  | .hbm, ⟨4, _⟩ => ⟨S16384x4096, .bf16⟩
  | .hbm, ⟨5, _⟩ => ⟨S1x4096, .f32⟩
  | .hbm, ⟨6, _⟩ => ⟨S16384x4096, .i8⟩
  | .hbm, ⟨7, _⟩ => ⟨S16384x1, .f32⟩
  | .hbm, ⟨8, _⟩ => ⟨S1x4096, .f32⟩
  | .hbm, ⟨9, _⟩ => ⟨S1x14336, .f32⟩
  | .hbm, ⟨10, _⟩ => ⟨S16384x14336, .bf16⟩
  | .hbm, ⟨11, _⟩ => ⟨S8x2048x14336, .bf16⟩
  | .hbm, ⟨12, _⟩ => ⟨S4096, .f32⟩
  | .hbm, ⟨13, _⟩ => ⟨S8x2048x4096, .i8⟩
  | .hbm, ⟨14, _⟩ => ⟨S8x2048, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x4096, .i8⟩
  | .local _ .vmem, ⟨4, _⟩ => ⟨S256x4096, .i8⟩
  | .local _ .vmem, ⟨5, _⟩ => ⟨S256x1, .f32⟩
  | .local _ .vmem, ⟨6, _⟩ => ⟨S256x1, .f32⟩
  | .local _ .vmem, ⟨7, _⟩ => ⟨S1x4096, .f32⟩
  | .local _ .vmem, ⟨8, _⟩ => ⟨S1024x4096, .i8⟩
  | .local _ .vmem, ⟨9, _⟩ => ⟨S1024x4096, .i8⟩
  | .local _ .vmem, ⟨10, _⟩ => ⟨S4096x1024, .i8⟩
  | .local _ .vmem, ⟨11, _⟩ => ⟨S4096x1024, .i8⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x2048x4096 : Shape := ⟨3, ![8, 2048, 4096]⟩
abbrev S4096 : Shape := ⟨1, ![4096]⟩
abbrev S4096x14336 : Shape := ⟨2, ![4096, 14336]⟩
abbrev S14336 : Shape := ⟨1, ![14336]⟩
abbrev S8x2048x14336 : Shape := ⟨3, ![8, 2048, 14336]⟩
abbrev S8x2048 : Shape := ⟨2, ![8, 2048]⟩
abbrev S1x1x4096 : Shape := ⟨3, ![1, 1, 4096]⟩
abbrev S8x2048x1 : Shape := ⟨3, ![8, 2048, 1]⟩
abbrev S1x1x14336 : Shape := ⟨3, ![1, 1, 14336]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x4096, .bf16⟩
  | .hbm, ⟨1, _⟩ => ⟨S4096, .f32⟩
  | .hbm, ⟨2, _⟩ => ⟨S4096x14336, .i8⟩
  | .hbm, ⟨3, _⟩ => ⟨S14336, .f32⟩
  | .hbm, ⟨4, _⟩ => ⟨S8x2048x14336, .bf16⟩
  | .hbm, ⟨5, _⟩ => ⟨S4096, .f32⟩
  | .hbm, ⟨6, _⟩ => ⟨S8x2048x4096, .i8⟩
  | .hbm, ⟨7, _⟩ => ⟨S8x2048, .f32⟩
  | .local _ .vmem, ⟨0, _⟩ => ⟨S8x2048x4096, .bf16⟩
  | .local _ .vmem, ⟨1, _⟩ => ⟨S4096, .f32⟩
  | .local _ .vmem, ⟨2, _⟩ => ⟨S4096x14336, .i8⟩
  | .local _ .vmem, ⟨3, _⟩ => ⟨S14336, .f32⟩
  | .local _ .vmem, ⟨4, _⟩ => ⟨S8x2048x14336, .bf16⟩
  | .local _ .vmem, ⟨5, _⟩ => ⟨S4096, .f32⟩
  | .local _ .vmem, ⟨6, _⟩ => ⟨S8x2048x4096, .i8⟩
  | .local _ .vmem, ⟨7, _⟩ => ⟨S8x2048, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Math.lean ====
/- The layer's arithmetic over the extended reals, one element at a time, and both programs' payloads read
   as that arithmetic.

   A token is a row of 4096 activations; `s` is the smoothing vector. Quantising a token takes only its own
   row, so every definition here takes rows as functions of the column:

     `amaxOf x s`     the token's largest |x k / s k|
     `scaleOf x s`    its quantisation step: `amaxOf / 127`, and 1 when that maximum is 0
     `codeOf x s k`   its code in column `k`: `x k / s k` over the step, rounded to even, clipped to ±127
     `outOf q sc w t` one output: the integer product of codes and weights, times the two scales

   The kernel computes a block of 256 tokens at a time (and 1024 × 1024 outputs at a time), the reference
   all of them at once; read at an index, each is the same function of the token's row. -/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Layer

open Idealize.ShloMosaic

/-- The largest |x k / s k| over a token's row (from minus infinity). -/
def amaxOf (x s : Fin 4096 → EReal) : EReal :=
  Finset.univ.fold max (Ideal.ofBits .f32 0xFF800000#32)
    (fun k => FloatOps.absf (F := Ideal) (φ := .f32) (Ideal.div (x k) (s k)))

/-- A token's quantisation step: its largest magnitude over 127, or 1 for a zero row. -/
def scaleOf (x s : Fin 4096 → EReal) : EReal :=
  if amaxOf x s = 0 then 1 else Ideal.div (amaxOf x s) (Ideal.ofBits .f32 0x42FE0000#32)

/-- A token's code in column `k`. -/
def codeOf (x s : Fin 4096 → EReal) (k : Fin 4096) : BitVec 8 :=
  FloatOps.fptosi (F := Ideal) (φ := .f32) 8
    (min (((127#32 : BitVec 32).toInt : ℝ) : EReal)
      (max (((4294967169#32 : BitVec 32).toInt : ℝ) : EReal)
        (Ideal.liftRound Ideal.roundHalfEven (Ideal.div (Ideal.div (x k) (s k)) (scaleOf x s)))))

/-- One output element: the product of a token's codes with a column of weight codes, times the token's step
    and the column's scale. -/
def outOf (q w : Fin 4096 → BitVec 8) (sc t : EReal) : EReal :=
  (∑ k : Fin 4096, FloatOps.sitofp (F := Ideal) .bf16 (q k) * FloatOps.sitofp (F := Ideal) .bf16 (w k)) * sc * t

/-- A magnitude. -/
def mag (a : EReal) : EReal := FloatOps.absf (F := Ideal) (φ := .f32) a

theorem mag_nonneg (a : EReal) : 0 ≤ mag a := by
  show (0 : EReal) ≤ max a (-a)
  rcases le_total 0 a with h | h
  · exact le_max_of_le_left h
  · exact le_max_of_le_right (EReal.neg_nonneg.mpr h)

/-- The reductions start from minus infinity. -/
theorem init_bot : Ideal.ofBits .f32 0xFF800000#32 = (⊥ : EReal) := by
  simp [Ideal.ofBits, Ideal.ieee]

/-! ## The kernel's payloads -/

section Kernel

open Cert.KernelIdeal Cert.KernelIdeal.Gen

/-- A per-row value given a trailing unit axis, at row `r`, is the row's value. -/
theorem col_apply (v : S256.Idx → EReal) (h : S256.ShapeCasts S256x1) (r : Fin 256) :
    shapeCast S256x1 v h (ix2 r 0) = v (ix1 r) := by
  refine shapeCast_apply v h _ _ ?_
  rw [Shape.rowMajor_val_one, Shape.rowMajor_val_two]
  show r.val = r.val * 1 + 0
  omega

/-- A per-row value broadcast along the row, at row `r`, is the row's value. -/
theorem bcast_row (v : S256x1.Idx → EReal) (h : S256x1.Broadcasts S256x4096) (r : Fin 256) (k : Fin 4096) :
    broadcastTo S256x4096 v h (ix2 r k) = v (ix2 r 0) := by
  refine broadcastTo_apply v h _ _ fun a => ?_
  match a with
  | ⟨0, _⟩ => rfl
  | ⟨1, _⟩ => rfl

/-- The largest magnitude of a block's row `r`, after smoothing. -/
theorem kernel_amax (x : Vec Ideal S256x4096 .bf16) (s : Vec Ideal S1x4096 .f32) (r : Fin 256) :
    multiReduction (F := Ideal) .maximumf [1] S256 (absf (k0_pay4 x s)) 0xFF800000#32 reduces_S256x4096_S256 (.inl rfl) rfl (ix1 r)
      = amaxOf (fun k => x (ix2 r k)) (fun k => s (ix2 0 k)) := by
  pointwise [k0_pay4, k0_pay1]
  unfold amaxOf
  rfl

/-- The step from the largest magnitude. -/
theorem step_apply (v : FVec Ideal S256x1 .f32) (j : S256x1.Idx) :
    select (cmpf .oeq v (broadcast S256x1 (FloatOps.ofBits (F := Ideal) .f32 0x00000000#32)))
        (broadcast S256x1 (FloatOps.ofBits (F := Ideal) .f32 0x3F800000#32))
        (divf v (broadcast S256x1 (FloatOps.ofBits (F := Ideal) .f32 0x42FE0000#32))) j
      = if v j = 0 then 1 else Ideal.div (v j) (Ideal.ofBits .f32 0x42FE0000#32) := by
  pointwise

/-- The step a block stores for its row `r`. -/
theorem kernel_scale (x : Vec Ideal S256x4096 .bf16) (s : Vec Ideal S1x4096 .f32) (r : Fin 256) :
    k0_pay5 x s (ix2 r 0) = scaleOf (fun k => x (ix2 r k)) (fun k => s (ix2 0 k)) := by
  have h := (col_apply (multiReduction (F := Ideal) .maximumf [1] S256 (absf (k0_pay4 x s)) 0xFF800000#32
    reduces_S256x4096_S256 (.inl rfl) rfl) shapeCasts_S256_S256x1 r).trans (kernel_amax x s r)
  unfold k0_pay5 scaleOf
  rw [← h]
  exact step_apply _ _

/-- A smoothed activation of a block. -/
theorem kernel_smooth (x : Vec Ideal S256x4096 .bf16) (s : Vec Ideal S1x4096 .f32) (r : Fin 256) (k : Fin 4096) :
    k0_pay4 x s (ix2 r k) = Ideal.div (x (ix2 r k)) (s (ix2 0 k)) := by
  pointwise [k0_pay4, k0_pay1]

/-- A code from a smoothed activation and its token's step. -/
theorem clip_apply (d b : FVec Ideal S256x4096 .f32) (j : S256x4096.Idx) :
    fptosi 8 (minimumf (broadcast S256x4096 (Scalar.sitofp (F := Ideal) .f32 127#32))
        (maximumf (broadcast S256x4096 (Scalar.sitofp (F := Ideal) .f32 4294967169#32)) (roundeven (divf d b)))) j
      = FloatOps.fptosi (F := Ideal) (φ := .f32) 8
        (min (((127#32 : BitVec 32).toInt : ℝ) : EReal)
          (max (((4294967169#32 : BitVec 32).toInt : ℝ) : EReal)
            (Ideal.liftRound Ideal.roundHalfEven (Ideal.div (d j) (b j))))) := by
  pointwise

/-- The code a block stores at row `r`, column `k`. -/
theorem kernel_code (x : Vec Ideal S256x4096 .bf16) (s : Vec Ideal S1x4096 .f32) (r : Fin 256) (k : Fin 4096) :
    k0_pay6 x s (ix2 r k) = codeOf (fun k => x (ix2 r k)) (fun k => s (ix2 0 k)) k := by
  have h := (bcast_row (k0_pay5 x s) broadcasts_S256x1_S256x4096 r k).trans (kernel_scale x s r)
  unfold k0_pay6 codeOf
  rw [← h, ← kernel_smooth]
  exact clip_apply _ _ _

/-- The running column maximum a block leaves: `c` bounds it exactly when `c` bounds what was there before and
    every magnitude of the block's column. -/
theorem kernel_amax_le (x : Vec Ideal S256x4096 .bf16) (a : Vec Ideal S1x4096 .f32) (k : Fin 4096) (c : EReal) :
    k0_pay3 x a (ix2 0 k) ≤ c ↔ a (ix2 0 k) ≤ c ∧ ∀ r : Fin 256, mag (x (ix2 r k)) ≤ c := by
  have h : k0_pay3 x a (ix2 0 k) = max (a (ix2 0 k))
      (Finset.univ.fold max (Ideal.ofBits .f32 0xFF800000#32) (fun r : Fin 256 => mag (x (ix2 r k)))) := by
    pointwise [k0_pay3, k0_pay1]
    rfl
  rw [h, max_le_iff, Finset.fold_max_le, init_bot]
  simp

/-- The running maximum starts from zero. -/
theorem kernel_amax_zero (k : Fin 4096) : k0_pay2 (F := Ideal) (ix2 0 k) = (0 : EReal) := by
  pointwise [k0_pay2]

/-- One output of a 1024 × 1024 block. -/
theorem kernel_out (q : Vec Ideal S1024x4096 .i8) (w : Vec Ideal S4096x1024 .i8) (sc : Vec Ideal S1024x1 .f32)
    (t : Vec Ideal S1x1024 .f32) (r n : Fin 1024) :
    k1_pay1 q w sc t (ix2 r n)
      = outOf (fun k => q (ix2 r k)) (fun k => w (ix2 k n)) (sc (ix2 r 0)) (t (ix2 0 n)) := by
  pointwise [k1_pay1]
  rfl

end Kernel

end Cert.Layer

end
-- ==== Proof.Outs.lean ====
/- What one point of each pipeline leaves in its staging buffers, as the body's payloads of the blocks it
   was given. The generated frame run records the stores each body makes; here they are read back.

   Quantiser: the codes (window 2) and steps (window 3) are payloads of the point's activations and the
   smoothing vector; the column maximum (window 4) is reset to zero at the first point (case A) and folds in
   the point's block at every point (cases A and B). Product: its one output block is one payload. -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- A whole-buffer access starts at offset zero. -/
theorem hz : (![0, 0] : Fin 2 → Nat) = fun _ => 0 := funext fun a => by fin_cases a <;> rfl

/-- The first point leaves, in window 2, the codes of its block. -/
theorem outA_2 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : cond0_0 i) (x : Vec F S256x4096 .bf16) (s : Vec F S1x4096 .f32) :
    out0_A_2 c i a1 h1 a2 h2 a3 h3 a4 h4 a5 h5 hc x s = k0_pay6 x s := by
  unfold out0_A_2
  rw [View.read_writes_eq_canon _ _ _ (cover0_A_2 c i a1 h1 a2 h2 a3 h3 a4 h4 a5 h5 hc x s)]
  unfold kernelRun0_A
  dsimp only
  sl_unfold_words
  rw [View.canon_unit_zero hz]
  simp only [View.readAt_eq_ld, h1.read_unread, h2.read_unread, h5.read_unread, View.ld_unit_zero (S := S256x4096) hz,
    View.ld_unit_zero (S := S1x4096) hz]

/-- The first point leaves, in window 3, the steps of its block's tokens. -/
theorem outA_3 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : cond0_0 i) (x : Vec F S256x4096 .bf16) (s : Vec F S1x4096 .f32) :
    out0_A_3 c i a1 h1 a2 h2 a3 h3 a4 h4 a5 h5 hc x s = k0_pay5 x s := by
  unfold out0_A_3
  rw [View.read_writes_eq_canon _ _ _ (cover0_A_3 c i a1 h1 a2 h2 a3 h3 a4 h4 a5 h5 hc x s)]
  unfold kernelRun0_A
  dsimp only
  sl_unfold_words
  rw [View.canon_unit_zero hz]
  simp only [View.readAt_eq_ld, h1.read_unread, h2.read_unread, h5.read_unread, View.ld_unit_zero (S := S256x4096) hz,
    View.ld_unit_zero (S := S1x4096) hz]

/-- The first point leaves, in window 4, the column maximum of its block over zero. -/
theorem outA_4 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : cond0_0 i) (x : Vec F S256x4096 .bf16) (s : Vec F S1x4096 .f32) :
    out0_A_4 c i a1 h1 a2 h2 a3 h3 a4 h4 a5 h5 hc x s = k0_pay3 x k0_pay2 := by
  unfold out0_A_4
  rw [View.read_writes_eq_canon _ _ _ (cover0_A_4 c i a1 h1 a2 h2 a3 h3 a4 h4 a5 h5 hc x s)]
  unfold kernelRun0_A
  dsimp only
  sl_unfold_words
  rw [View.canon_cons_unit_zero (S := S1x4096) hz, View.readCov_unit_zero (S := S1x4096) _ hz]
  simp only [View.readAt_eq_ld, h1.read_unread, h2.read_unread, h5.read_unread, View.ld_unit_zero (S := S256x4096) hz,
    View.ld_unit_zero (S := S1x4096) hz]

/-- A later point leaves, in window 2, the codes of its block. -/
theorem outB_2 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : ¬cond0_0 i) (x : Vec F S256x4096 .bf16) (s : Vec F S1x4096 .f32) (xo : Vec F S1x4096 .f32) :
    out0_B_2 c i a1 h1 a2 h2 a3 h3 a4 h4 a5 h5 hc x s xo = k0_pay6 x s := by
  unfold out0_B_2
  rw [View.read_writes_eq_canon _ _ _ (cover0_B_2 c i a1 h1 a2 h2 a3 h3 a4 h4 a5 h5 hc x s xo)]
  unfold kernelRun0_B
  dsimp only
  sl_unfold_words
  rw [View.canon_unit_zero hz]
  simp only [View.readAt_eq_ld, h1.read_unread, h2.read_unread, h5.read_unread, View.ld_unit_zero (S := S256x4096) hz,
    View.ld_unit_zero (S := S1x4096) hz]

/-- A later point leaves, in window 3, the steps of its block's tokens. -/
theorem outB_3 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : ¬cond0_0 i) (x : Vec F S256x4096 .bf16) (s : Vec F S1x4096 .f32) (xo : Vec F S1x4096 .f32) :
    out0_B_3 c i a1 h1 a2 h2 a3 h3 a4 h4 a5 h5 hc x s xo = k0_pay5 x s := by
  unfold out0_B_3
  rw [View.read_writes_eq_canon _ _ _ (cover0_B_3 c i a1 h1 a2 h2 a3 h3 a4 h4 a5 h5 hc x s xo)]
  unfold kernelRun0_B
  dsimp only
  sl_unfold_words
  rw [View.canon_unit_zero hz]
  simp only [View.readAt_eq_ld, h1.read_unread, h2.read_unread, h5.read_unread, View.ld_unit_zero (S := S256x4096) hz,
    View.ld_unit_zero (S := S1x4096) hz]

/-- A later point leaves, in window 4, the column maximum of its block over what was there. -/
theorem outB_4 (c : Dev nD) (i : grid0.Coords) (a1 : Memref sig .tc .vmem S256x4096 .bf16) (h1 : a1.IsWhole)
    (a2 : Memref sig .tc .vmem S1x4096 .f32) (h2 : a2.IsWhole) (a3 : Memref sig .tc .vmem S256x4096 .i8) (h3 : a3.IsWhole)
    (a4 : Memref sig .tc .vmem S256x1 .f32) (h4 : a4.IsWhole) (a5 : Memref sig .tc .vmem S1x4096 .f32) (h5 : a5.IsWhole)
    (hc : ¬cond0_0 i) (x : Vec F S256x4096 .bf16) (s : Vec F S1x4096 .f32) (xo : Vec F S1x4096 .f32) :
    out0_B_4 c i a1 h1 a2 h2 a3 h3 a4 h4 a5 h5 hc x s xo = k0_pay3 x xo := by
  unfold out0_B_4
  rw [View.read_writes_eq_canon _ _ _ (cover0_B_4 c i a1 h1 a2 h2 a3 h3 a4 h4 a5 h5 hc x s xo)]
  unfold kernelRun0_B
  dsimp only
  sl_unfold_words
  rw [View.canon_unit_zero hz]
  simp only [View.readAt_eq_ld, h1.read_unread, h2.read_unread, h5.read_unread, View.ld_unit_zero (S := S256x4096) hz,
    View.ld_unit_zero (S := S1x4096) hz]

/-- A point of the product leaves the product of its blocks. -/
theorem out1 (q : Vec F S1024x4096 .i8) (w : Vec F S4096x1024 .i8) (sc : Vec F S1024x1 .f32) (t : Vec F S1x1024 .f32) :
    out1_4 q w sc t = k1_pay1 q w sc t := by
  unfold out1_4
  rw [View.canon_unit_zero hz, View.ld_unit_zero (S := S1024x4096) hz, View.ld_unit_zero (S := S4096x1024) hz,
    View.ld_unit_zero (S := S1024x1) hz, View.ld_unit_zero (S := S1x1024) hz]

end Cert.KernelIdeal.Value

end
-- ==== Proof.Quant.lean ====
/- What the quantiser leaves in its three result arrays, from any contents `V` of its inputs: the activations
   `X` (16384 tokens of 4096) and the smoothing vector `S`. Its point `t` of 64 works on tokens 256t … 256t+255.

     codes     at token i, column k:  `codeOf` of token i
     steps     at token i:            `scaleOf` of token i
     maximum   at column k:           bounded by exactly what bounds every magnitude of the column

   Codes and steps are written back at every point, each to its own rows. The column maximum stays in one
   buffer over the whole grid and is written back after the last point: an induction on the point. -/
module

public import proofs.«01_k».proof.Proof.Math
public import proofs.«01_k».proof.Proof.Outs

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Layer

variable (V : (c : Dev nD) → (b : Ref sig .tc) → Buf (Elt Ideal) ((c : Thread nD τ).loc b))

/-- The activations the quantiser finds. -/
abbrev inX (c : Dev nD) : S16384x4096.Idx → EReal := V c main_v0

/-- The smoothing vector the quantiser finds. -/
abbrev inS (c : Dev nD) : S1x4096.Idx → EReal := V c main_v1

/-- Row `r` of block `t` is token `256t + r`. -/
abbrev tok (t : Fin 64) (r : Fin 256) : Fin 16384 := ⟨t.val * 256 + r.val, by omega⟩

theorem lt64 (t : Fin cfg0.N) : t.val < 64 := Nat.lt_of_lt_of_eq t.isLt N_0

/-- The activations' window is at block row `t`. -/
theorem at0_0 : ∀ t : Fin grid0.N, win0_0.index t 0 = t.val ∧ win0_0.index t 1 = 0 := by decide +kernel
/-- The smoothing vector's window never moves. -/
theorem at0_1 : ∀ t : Fin grid0.N, win0_1.index t 0 = 0 ∧ win0_1.index t 1 = 0 := by decide +kernel
/-- The codes' window is at block row `t`. -/
theorem at0_2 : ∀ t : Fin grid0.N, win0_2.index t 0 = t.val ∧ win0_2.index t 1 = 0 := by decide +kernel
/-- The steps' window is at block row `t`. -/
theorem at0_3 : ∀ t : Fin grid0.N, win0_3.index t 0 = t.val ∧ win0_3.index t 1 = 0 := by decide +kernel
/-- The maximum's window never moves. -/
theorem at0_4 : ∀ t : Fin grid0.N, win0_4.index t 0 = 0 ∧ win0_4.index t 1 = 0 := by decide +kernel

/-- Row `r` of the activations' block at point `t` is token `256t + r`. -/
theorem blk0_0 (c : Dev nD) (t : Fin cfg0.N) (r : Fin 256) (k : Fin 4096) :
    (iblk0 V c 0 t : Vec Ideal S256x4096 .bf16) (ix2 r k) = inX V c (ix2 (tok ⟨t.val, lt64 t⟩ r) k) := by
  unfold iblk0
  rw [View.read_apply]
  show V c main_v0 _ = V c main_v0 _
  congr 1
  funext a
  apply Fin.ext
  match a with
  | ⟨0, _⟩ => show win0_0.index t 0 * 256 + 1 * r.val = t.val * 256 + r.val; rw [(at0_0 t).1]; omega
  | ⟨1, _⟩ => show win0_0.index t 1 * 4096 + 1 * k.val = k.val; rw [(at0_0 t).2]; omega

/-- The smoothing vector's block is the smoothing vector, at every point. -/
theorem blk0_1 (c : Dev nD) (t : Fin cfg0.N) (k : Fin 4096) :
    (iblk0 V c 1 t : Vec Ideal S1x4096 .f32) (ix2 0 k) = inS V c (ix2 0 k) := by
  unfold iblk0
  rw [View.read_apply]
  show V c main_v1 _ = V c main_v1 _
  congr 1
  funext a
  apply Fin.ext
  match a with
  | ⟨0, _⟩ => show win0_1.index t 0 * 1 + 1 * 0 = 0; rw [(at0_1 t).1]
  | ⟨1, _⟩ => show win0_1.index t 1 * 4096 + 1 * k.val = k.val; rw [(at0_1 t).2]; omega

/-- The codes a point leaves are its block's. -/
theorem outs_codes (c : Dev nD) (t : Fin cfg0.N) :
    (outsAt0 V c t.val t.isLt).1 = k0_pay6 (iblk0 V c 0 t) (iblk0 V c 1 t) := by
  by_cases h : t.val % 64 = 0
  · rw [outsAt0_A V c t h, outA_2]
  · rw [outsAt0_B V c t h, outB_2]

/-- The steps a point leaves are its block's. -/
theorem outs_steps (c : Dev nD) (t : Fin cfg0.N) :
    (outsAt0 V c t.val t.isLt).2.1 = k0_pay5 (iblk0 V c 0 t) (iblk0 V c 1 t) := by
  by_cases h : t.val % 64 = 0
  · rw [outsAt0_A V c t h, outA_3]
  · rw [outsAt0_B V c t h, outB_3]

/-- The running column maximum after point `n`: bounded by `c` exactly when zero and every magnitude of the
    tokens so far are. -/
theorem outs_amax (d : Dev nD) (k : Fin 4096) (c : EReal) : ∀ (n : ℕ) (h : n < cfg0.N),
    (outsAt0 V d n h).2.2 (ix2 0 k) ≤ c
      ↔ 0 ≤ c ∧ ∀ i : Fin 16384, i.val < 256 * (n + 1) → mag (inX V d (ix2 i k)) ≤ c
  | 0, h => by
    rw [show outsAt0 V d 0 h = _ from outsAt0_A V d ⟨0, h⟩ rfl, outA_4]
    rw [kernel_amax_le, kernel_amax_zero]
    refine and_congr_right fun _ => ⟨fun H i hi => ?_, fun H r => ?_⟩
    · have := H ⟨i.val, by omega⟩
      rw [blk0_0] at this
      have e : tok ⟨0, lt64 ⟨0, h⟩⟩ ⟨i.val, by omega⟩ = i := Fin.ext (by show 0 * 256 + i.val = i.val; omega)
      rwa [e] at this
    · rw [blk0_0]
      exact H _ (by show 0 * 256 + r.val < _; omega)
  | n + 1, h => by
    have hN : cfg0.N = 64 := N_0
    have hB : ¬(⟨n + 1, h⟩ : Fin cfg0.N).val % 64 = 0 := by dsimp only; omega
    rw [show outsAt0 V d (n + 1) h = _ from outsAt0_B V d ⟨n + 1, h⟩ hB, outB_4]
    rw [kernel_amax_le]
    have ih := outs_amax d k c n (Nat.lt_of_succ_lt h)
    rw [show outsAt0 V d ((⟨n + 1, h⟩ : Fin cfg0.N).val - 1) _ = outsAt0 V d n (Nat.lt_of_succ_lt h) from rfl, ih, and_assoc]
    refine and_congr_right fun _ => ⟨fun H i hi => ?_, fun H => ⟨fun i hi => H i (by omega), fun r => ?_⟩⟩
    · by_cases hlt : i.val < 256 * (n + 1)
      · exact H.1 i hlt
      · have := H.2 ⟨i.val - 256 * (n + 1), by omega⟩
        rw [blk0_0] at this
        have e : tok ⟨n + 1, lt64 ⟨n + 1, h⟩⟩ ⟨i.val - 256 * (n + 1), by omega⟩ = i :=
          Fin.ext (by show (n + 1) * 256 + (i.val - 256 * (n + 1)) = i.val; omega)
        rwa [e] at this
    · rw [blk0_0]
      exact H _ (by show (n + 1) * 256 + r.val < _; omega)

/-- The codes the quantiser ends with. -/
abbrev codesOf (c : Dev nD) : Buf (Elt Ideal) ((c : Thread nD τ).loc main_v2_0) :=
  (fun i => codeOf (fun k => inX V c (ix2 (i 0) k)) (fun k => inS V c (ix2 0 k)) (i 1) : S16384x4096.Idx → BitVec 8)

/-- The steps the quantiser ends with. -/
abbrev stepsOf (c : Dev nD) : Buf (Elt Ideal) ((c : Thread nD τ).loc main_v2_1) :=
  (fun i => scaleOf (fun k => inX V c (ix2 (i 0) k)) (fun k => inS V c (ix2 0 k)) : S16384x1.Idx → EReal)

/-- The column maximum the quantiser ends with: its running maximum after the last point. -/
abbrev amaxEnd (c : Dev nD) : Vec Ideal S1x4096 .f32 :=
  (outsAt0 V c 63 (by rw [show cfg0.N = 64 from N_0]; decide)).2.2

/-- Each point writes back its tokens' codes. -/
theorem flushed_codes (c : Dev nD) (t : Fin cfg0.N) (hf : (cfg0.win 2).flush t = true) :
    (dat0 V c).flushed 2 t = ((cfg0.win 2).blk t).view.read (Elt Ideal) (codesOf V c) := by
  show (cfg0.win 2).cut (grid0.coords t) ((dat0 V c).after 2 t) = _
  rw [after0_2, outs_codes]
  funext j
  rw [View.read_apply]
  obtain ⟨r, k, rfl⟩ : ∃ (r : Fin 256) (k : Fin 4096), j = ix2 r k := ⟨_, _, eq_ix2 j⟩
  show k0_pay6 (iblk0 V c 0 t) (iblk0 V c 1 t) (ix2 r k) = codesOf V c _
  rw [kernel_code]
  have hi : ((cfg0.win 2).blk t).view.emb (ix2 r k) = ix2 (tok ⟨t.val, lt64 t⟩ r) k := by
    funext a
    apply Fin.ext
    match a with
    | ⟨0, _⟩ => show win0_2.index t 0 * 256 + 1 * r.val = t.val * 256 + r.val; rw [(at0_2 t).1]; omega
    | ⟨1, _⟩ => show win0_2.index t 1 * 4096 + 1 * k.val = k.val; rw [(at0_2 t).2]; omega
  rw [hi]
  simp only [blk0_0, blk0_1]
  rfl

/-- Each point writes back its tokens' steps. -/
theorem flushed_steps (c : Dev nD) (t : Fin cfg0.N) (hf : (cfg0.win 3).flush t = true) :
    (dat0 V c).flushed 3 t = ((cfg0.win 3).blk t).view.read (Elt Ideal) (stepsOf V c) := by
  show (cfg0.win 3).cut (grid0.coords t) ((dat0 V c).after 3 t) = _
  rw [after0_3, outs_steps]
  funext j
  rw [View.read_apply]
  obtain ⟨r, k, rfl⟩ : ∃ (r : Fin 256) (k : Fin 1), j = ix2 r k := ⟨_, _, eq_ix2 j⟩
  obtain rfl : k = 0 := Subsingleton.elim _ _
  show k0_pay5 (iblk0 V c 0 t) (iblk0 V c 1 t) (ix2 r 0) = stepsOf V c _
  rw [kernel_scale]
  have hi : ((cfg0.win 3).blk t).view.emb (ix2 r 0) = ix2 (tok ⟨t.val, lt64 t⟩ r) 0 := by
    funext a
    apply Fin.ext
    match a with
    | ⟨0, _⟩ => show win0_3.index t 0 * 256 + 1 * r.val = t.val * 256 + r.val; rw [(at0_3 t).1]; omega
    | ⟨1, _⟩ => show win0_3.index t 1 * 1 + 1 * 0 = 0; rw [(at0_3 t).2]
  rw [hi]
  simp only [blk0_0, blk0_1]
  rfl

/-- The last point writes back the column maximum. -/
theorem flushed_amax (c : Dev nD) (t : Fin cfg0.N) (hf : (cfg0.win 4).flush t = true) :
    (dat0 V c).flushed 4 t = ((cfg0.win 4).blk t).view.read (Elt Ideal) (amaxEnd V c) := by
  have hN : cfg0.N = 64 := N_0
  have h63 : t.val = 63 := by have := (flush0_4 t).mp hf; have := t.isLt; omega
  show (cfg0.win 4).cut (grid0.coords t) ((dat0 V c).after 4 t) = _
  rw [after0_4]
  have ho : (outsAt0 V c t.val t.isLt).2.2 = amaxEnd V c := by
    have e : t = ⟨63, by omega⟩ := Fin.ext h63
    rw [e]
  rw [ho]
  have hz' : (fun a => win0_4.index t a * main_v2_2.ty.shape.size a) = fun _ => 0 := funext fun a => by
    match a with
    | ⟨0, _⟩ => show win0_4.index t 0 * 1 = 0; rw [(at0_4 t).1]
    | ⟨1, _⟩ => show win0_4.index t 1 * 4096 = 0; rw [(at0_4 t).2]
  exact (Memref.read_access_unit_zero (Elt Ideal) main_v2_2 hz' (fun a => by rw [congrFun hz' a]; simp) (amaxEnd V c)).symm

/-- The codes' array after the quantiser. -/
theorem final_codes (c : Dev nD) : (dat0 V c).arrAt 2 cfg0.N = codesOf V c :=
  (dat0 V c).arrAt_eq_of_cover 2 (codesOf V c) (flushed_codes V c) fun i => by
    have h0 : (i 0 : Nat) < 16384 := (i 0).isLt
    have h1 : (i 1 : Nat) < 4096 := (i 1).isLt
    have hN : cfg0.N = 64 := N_0
    obtain ⟨t, ht⟩ : ∃ t : Fin cfg0.N, t.val = (i 0 : Nat) / 256 := ⟨⟨_, by omega⟩, rfl⟩
    refine ⟨t, flush0_2 t, ?_⟩
    show i ∈ ((View.whole main_v2_0).slice (win0_2.rect t)).set
    rw [View.set_slice_whole, Rect.mem_set_unit]
    intro a
    match a with
    | ⟨0, _⟩ =>
      show win0_2.index t 0 * 256 ≤ (i 0 : Nat) ∧ (i 0 : Nat) < win0_2.index t 0 * 256 + 256
      rw [(at0_2 t).1]
      omega
    | ⟨1, _⟩ =>
      show win0_2.index t 1 * 4096 ≤ (i 1 : Nat) ∧ (i 1 : Nat) < win0_2.index t 1 * 4096 + 4096
      rw [(at0_2 t).2]
      omega

/-- The steps' array after the quantiser. -/
theorem final_steps (c : Dev nD) : (dat0 V c).arrAt 3 cfg0.N = stepsOf V c :=
  (dat0 V c).arrAt_eq_of_cover 3 (stepsOf V c) (flushed_steps V c) fun i => by
    have h0 : (i 0 : Nat) < 16384 := (i 0).isLt
    have h1 : (i 1 : Nat) < 1 := (i 1).isLt
    have hN : cfg0.N = 64 := N_0
    obtain ⟨t, ht⟩ : ∃ t : Fin cfg0.N, t.val = (i 0 : Nat) / 256 := ⟨⟨_, by omega⟩, rfl⟩
    refine ⟨t, flush0_3 t, ?_⟩
    show i ∈ ((View.whole main_v2_1).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [(at0_3 t).1]
      omega
    | ⟨1, _⟩ =>
      show win0_3.index t 1 * 1 ≤ (i 1 : Nat) ∧ (i 1 : Nat) < win0_3.index t 1 * 1 + 1
      rw [(at0_3 t).2]
      omega

/-- The column maximum's array after the quantiser. -/
theorem final_amax (c : Dev nD) : (dat0 V c).arrAt 4 cfg0.N = amaxEnd V c :=
  (dat0 V c).arrAt_eq_of_cover 4 (amaxEnd V c) (flushed_amax V c) fun i => by
    have h0 : (i 0 : Nat) < 1 := (i 0).isLt
    have h1 : (i 1 : Nat) < 4096 := (i 1).isLt
    have hN : cfg0.N = 64 := N_0
    obtain ⟨t, ht⟩ : ∃ t : Fin cfg0.N, t.val = 63 := ⟨⟨63, by omega⟩, rfl⟩
    refine ⟨t, (flush0_4 t).mpr (by omega), ?_⟩
    show i ∈ ((View.whole main_v2_2).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [(at0_4 t).1]
      omega
    | ⟨1, _⟩ =>
      show win0_4.index t 1 * 4096 ≤ (i 1 : Nat) ∧ (i 1 : Nat) < win0_4.index t 1 * 4096 + 4096
      rw [(at0_4 t).2]
      omega

/-- The final column maximum: bounded by `c` exactly when every magnitude of its column is. (Magnitudes are
    not negative, so the zero it starts from adds nothing.) -/
theorem amaxEnd_le (d : Dev nD) (k : Fin 4096) (c : EReal) :
    amaxEnd V d (ix2 0 k) ≤ c ↔ ∀ i : Fin 16384, mag (inX V d (ix2 i k)) ≤ c := by
  refine (outs_amax V d k c 63 _).trans ⟨fun H i => H.2 i (by omega), fun H => ⟨?_, fun i _ => H i⟩⟩
  exact (mag_nonneg _).trans (H ⟨0, by omega⟩)

end Cert.KernelIdeal.Value

end
-- ==== Proof.Prod.lean ====
/- What the product leaves in its result array, from any contents `V` of its inputs: the codes `Q`
   (16384 × 4096), the weight codes `W` (4096 × 14336), the tokens' steps and the columns' scales. Its point
   `t` of 16 × 14 works on tokens 1024⌊t/14⌋ … and columns 1024(t mod 14) …; every point writes its own
   1024 × 1024 block back, and the blocks tile the array. So output `(i, n)` is `outOf` of code row `i`, weight
   column `n` and the two scales. -/
module

public import proofs.«01_k».proof.Proof.Math
public import proofs.«01_k».proof.Proof.Outs

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Layer

variable (V : (c : Dev nD) → (b : Ref sig .tc) → Buf (Elt Ideal) ((c : Thread nD τ).loc b))

/-- The codes the product finds. -/
abbrev inQ (c : Dev nD) : S16384x4096.Idx → BitVec 8 := V c main_v2_0

/-- The weight codes the product finds. -/
abbrev inW (c : Dev nD) : S4096x14336.Idx → BitVec 8 := V c main_arg2

/-- The tokens' steps the product finds. -/
abbrev inStep (c : Dev nD) : S16384x1.Idx → EReal := V c main_v2_1

/-- The columns' scales the product finds. -/
abbrev inWs (c : Dev nD) : S1x14336.Idx → EReal := V c main_v3

theorem lt224 (t : Fin cfg1.N) : t.val < 224 := Nat.lt_of_lt_of_eq t.isLt N_1

/-- Row `r` of the blocks of point `t` is this token. -/
abbrev row1 (t : Fin cfg1.N) (r : Fin 1024) : Fin 16384 := ⟨t.val / 14 * 1024 + r.val, by have := lt224 t; omega⟩

/-- Column `n` of the blocks of point `t` is this output column. -/
abbrev col1 (t : Fin cfg1.N) (n : Fin 1024) : Fin 14336 := ⟨t.val % 14 * 1024 + n.val, by omega⟩

/-- The codes' window: block row `t / 14`. -/
theorem at1_0 : ∀ t : Fin grid1.N, win1_0.index t 0 = t.val / 14 ∧ win1_0.index t 1 = 0 := by decide +kernel
/-- The weights' window: block column `t mod 14`. -/
theorem at1_1 : ∀ t : Fin grid1.N, win1_1.index t 0 = 0 ∧ win1_1.index t 1 = t.val % 14 := by decide +kernel
/-- The steps' window: block row `t / 14`. -/
theorem at1_2 : ∀ t : Fin grid1.N, win1_2.index t 0 = t.val / 14 ∧ win1_2.index t 1 = 0 := by decide +kernel
/-- The scales' window: block column `t mod 14`. -/
theorem at1_3 : ∀ t : Fin grid1.N, win1_3.index t 0 = 0 ∧ win1_3.index t 1 = t.val % 14 := by decide +kernel
/-- The outputs' window: block `(t / 14, t mod 14)`. -/
theorem at1_4 : ∀ t : Fin grid1.N, win1_4.index t 0 = t.val / 14 ∧ win1_4.index t 1 = t.val % 14 := by decide +kernel

/-- The codes' block at point `t`. -/
theorem blk1_0 (c : Dev nD) (t : Fin cfg1.N) (r : Fin 1024) (k : Fin 4096) :
    (iblk1 V c 0 t : Vec Ideal S1024x4096 .i8) (ix2 r k) = inQ V c (ix2 (row1 t r) k) := by
  unfold iblk1
  rw [View.read_apply]
  show V c main_v2_0 _ = V c main_v2_0 _
  congr 1
  funext a
  apply Fin.ext
  match a with
  | ⟨0, _⟩ => show win1_0.index t 0 * 1024 + 1 * r.val = t.val / 14 * 1024 + r.val; rw [(at1_0 t).1]; omega
  | ⟨1, _⟩ => show win1_0.index t 1 * 4096 + 1 * k.val = k.val; rw [(at1_0 t).2]; omega

/-- The weights' block at point `t`. -/
theorem blk1_1 (c : Dev nD) (t : Fin cfg1.N) (k : Fin 4096) (n : Fin 1024) :
    (iblk1 V c 1 t : Vec Ideal S4096x1024 .i8) (ix2 k n) = inW V c (ix2 k (col1 t n)) := by
  unfold iblk1
  rw [View.read_apply]
  show V c main_arg2 _ = V c main_arg2 _
  congr 1
  funext a
  apply Fin.ext
  match a with
  | ⟨0, _⟩ => show win1_1.index t 0 * 4096 + 1 * k.val = k.val; rw [(at1_1 t).1]; omega
  | ⟨1, _⟩ => show win1_1.index t 1 * 1024 + 1 * n.val = t.val % 14 * 1024 + n.val; rw [(at1_1 t).2]; omega

/-- The steps' block at point `t`. -/
theorem blk1_2 (c : Dev nD) (t : Fin cfg1.N) (r : Fin 1024) :
    (iblk1 V c 2 t : Vec Ideal S1024x1 .f32) (ix2 r 0) = inStep V c (ix2 (row1 t r) 0) := by
  unfold iblk1
  rw [View.read_apply]
  show V c main_v2_1 _ = V c main_v2_1 _
  congr 1
  funext a
  apply Fin.ext
  match a with
  | ⟨0, _⟩ => show win1_2.index t 0 * 1024 + 1 * r.val = t.val / 14 * 1024 + r.val; rw [(at1_2 t).1]; omega
  | ⟨1, _⟩ => show win1_2.index t 1 * 1 + 1 * 0 = 0; rw [(at1_2 t).2]

/-- The scales' block at point `t`. -/
theorem blk1_3 (c : Dev nD) (t : Fin cfg1.N) (n : Fin 1024) :
    (iblk1 V c 3 t : Vec Ideal S1x1024 .f32) (ix2 0 n) = inWs V c (ix2 0 (col1 t n)) := by
  unfold iblk1
  rw [View.read_apply]
  show V c main_v3 _ = V c main_v3 _
  congr 1
  funext a
  apply Fin.ext
  match a with
  | ⟨0, _⟩ => show win1_3.index t 0 * 1 + 1 * 0 = 0; rw [(at1_3 t).1]
  | ⟨1, _⟩ => show win1_3.index t 1 * 1024 + 1 * n.val = t.val % 14 * 1024 + n.val; rw [(at1_3 t).2]; omega

/-- The outputs the product ends with. -/
abbrev outsOf (c : Dev nD) : Vec Ideal S16384x14336 .bf16 :=
  fun i => outOf (fun k => inQ V c (ix2 (i 0) k)) (fun k => inW V c (ix2 k (i 1))) (inStep V c (ix2 (i 0) 0))
    (inWs V c (ix2 0 (i 1)))

/-- Each point writes back its block of outputs. -/
theorem flushed_outs (c : Dev nD) (t : Fin cfg1.N) (hf : (cfg1.win 4).flush t = true) :
    (dat1 V c).flushed 4 t = ((cfg1.win 4).blk t).view.read (Elt Ideal) (outsOf V c) := by
  show (cfg1.win 4).cut (grid1.coords t) ((dat1 V c).after 4 t) = _
  rw [after1_4, out1]
  funext j
  rw [View.read_apply]
  obtain ⟨r, n, rfl⟩ : ∃ (r : Fin 1024) (n : Fin 1024), j = ix2 r n := ⟨_, _, eq_ix2 j⟩
  show k1_pay1 (iblk1 V c 0 t) (iblk1 V c 1 t) (iblk1 V c 2 t) (iblk1 V c 3 t) (ix2 r n) = outsOf V c _
  rw [kernel_out]
  have hi : ((cfg1.win 4).blk t).view.emb (ix2 r n) = ix2 (row1 t r) (col1 t n) := by
    funext a
    apply Fin.ext
    match a with
    | ⟨0, _⟩ => show win1_4.index t 0 * 1024 + 1 * r.val = t.val / 14 * 1024 + r.val; rw [(at1_4 t).1]; omega
    | ⟨1, _⟩ => show win1_4.index t 1 * 1024 + 1 * n.val = t.val % 14 * 1024 + n.val; rw [(at1_4 t).2]; omega
  rw [hi]
  simp only [blk1_0, blk1_1, blk1_2, blk1_3]
  rfl

/-- The outputs' array after the product. -/
theorem final_outs (c : Dev nD) : (dat1 V c).arrAt 4 cfg1.N = outsOf V c :=
  (dat1 V c).arrAt_eq_of_cover 4 (outsOf V c) (flushed_outs V c) fun i => by
    have h0 : (i 0 : Nat) < 16384 := (i 0).isLt
    have h1 : (i 1 : Nat) < 14336 := (i 1).isLt
    have hN : cfg1.N = 224 := N_1
    obtain ⟨t, ht⟩ : ∃ t : Fin cfg1.N, t.val = (i 0 : Nat) / 1024 * 14 + (i 1 : Nat) / 1024 := ⟨⟨_, by omega⟩, rfl⟩
    refine ⟨t, flush1_4 t, ?_⟩
    show i ∈ ((View.whole main_v4).slice (win1_4.rect t)).set
    rw [View.set_slice_whole, Rect.mem_set_unit]
    intro a
    match a with
    | ⟨0, _⟩ =>
      show win1_4.index t 0 * 1024 ≤ (i 0 : Nat) ∧ (i 0 : Nat) < win1_4.index t 0 * 1024 + 1024
      rw [(at1_4 t).1]
      omega
    | ⟨1, _⟩ =>
      show win1_4.index t 1 * 1024 ≤ (i 1 : Nat) ∧ (i 1 : Nat) < win1_4.index t 1 * 1024 + 1024
      rw [(at1_4 t).2]
      omega

end Cert.KernelIdeal.Value

end
-- ==== Proof.Results.lean ====
/- The kernel's four results, element by element, from its arguments: the fold through `@main` (reshape,
   quantise, reshape, multiply, reshape) read off at each result. Token `(b, r)` of the arguments is token
   2048b + r of the kernel's two-dimensional arrays. -/
module

public import proofs.«01_k».proof.Proof.Quant
public import proofs.«01_k».proof.Proof.Prod
public import Idealize.ShloMosaic.Lib.StableHlo.Run

@[expose] public section

noncomputable section

open Idealize.ShloMosaic Idealize.ShloMosaic.TcCoe Idealize.SL.Sem Idealize.ShloMosaic.StableHlo
open Idealize.ShloMosaic.Pipeline (Dat)

namespace Cert.KernelIdeal.Value

open Cert.KernelIdeal Cert.KernelIdeal.Gen Cert.Layer

variable (m : (ℓ : Loc nD τ sig) → Buf (Elt Ideal) ℓ) (ρ : Dev nD → PrngReg)

/-- The activations. -/
abbrev argX (c : Dev nD) : Vec Ideal S8x2048x4096 .bf16 := m ((c : Thread nD τ).loc main_arg0)
/-- The smoothing vector. -/
abbrev argS (c : Dev nD) : Vec Ideal S4096 .f32 := m ((c : Thread nD τ).loc main_arg1)
/-- The weight codes. -/
abbrev argW (c : Dev nD) : Vec Ideal S4096x14336 .i8 := m ((c : Thread nD τ).loc main_arg2)
/-- The weights' column scales. -/
abbrev argT (c : Dev nD) : Vec Ideal S14336 .f32 := m ((c : Thread nD τ).loc main_arg3)

/-- Token `(b, r)` in the flattened order. -/
abbrev flat (b : Fin 8) (r : Fin 2048) : Fin 16384 := ⟨b.val * 2048 + r.val, by omega⟩

/-! ## Reshapes at an index -/

/-- Splitting rows of 4096 into 8 × 2048 tokens. -/
theorem split_4096 {α : Type} (v : S16384x4096.Idx → α) (h : S16384x4096.ShapeCasts S8x2048x4096) (b : Fin 8)
    (r : Fin 2048) (k : Fin 4096) : shapeCast S8x2048x4096 v h (ix3 b r k) = v (ix2 (flat b r) k) := by
  refine shapeCast_apply v h _ _ ?_
  rw [Shape.rowMajor_val_two, Shape.rowMajor_val_three]
  rfl

/-- Joining 8 × 2048 tokens into rows of 4096. -/
theorem join_4096 {α : Type} (v : S8x2048x4096.Idx → α) (h : S8x2048x4096.ShapeCasts S16384x4096) (b : Fin 8)
    (r : Fin 2048) (k : Fin 4096) : shapeCast S16384x4096 v h (ix2 (flat b r) k) = v (ix3 b r k) := by
  refine shapeCast_apply v h _ _ ?_
  rw [Shape.rowMajor_val_two, Shape.rowMajor_val_three]
  rfl

/-- Splitting rows of 14336 into 8 × 2048 tokens. -/
theorem split_14336 {α : Type} (v : S16384x14336.Idx → α) (h : S16384x14336.ShapeCasts S8x2048x14336) (b : Fin 8)
    (r : Fin 2048) (n : Fin 14336) : shapeCast S8x2048x14336 v h (ix3 b r n) = v (ix2 (flat b r) n) := by
  refine shapeCast_apply v h _ _ ?_
  rw [Shape.rowMajor_val_two, Shape.rowMajor_val_three]
  rfl

/-- Splitting a column of 16384 into 8 × 2048 tokens. -/
theorem split_1 {α : Type} (v : S16384x1.Idx → α) (h : S16384x1.ShapeCasts S8x2048) (b : Fin 8) (r : Fin 2048) :
    shapeCast S8x2048 v h (ix2 b r) = v (ix2 (flat b r) 0) := by
  refine shapeCast_apply v h _ _ ?_
  rw [Shape.rowMajor_val_two, Shape.rowMajor_val_two]
  show (b.val * 2048 + r.val) * 1 + 0 = b.val * 2048 + r.val
  omega

/-- A vector of 4096 as one row. -/
theorem row_4096 {α : Type} (v : S4096.Idx → α) (h : S4096.ShapeCasts S1x4096) (k : Fin 4096) :
    shapeCast S1x4096 v h (ix2 0 k) = v (ix1 k) := by
  refine shapeCast_apply v h _ _ ?_
  rw [Shape.rowMajor_val_one, Shape.rowMajor_val_two]
  show k.val = 0 * 4096 + k.val
  omega

/-- One row of 4096 as a vector. -/
theorem vec_4096 {α : Type} (v : S1x4096.Idx → α) (h : S1x4096.ShapeCasts S4096) (k : Fin 4096) :
    shapeCast S4096 v h (ix1 k) = v (ix2 0 k) := by
  refine shapeCast_apply v h _ _ ?_
  rw [Shape.rowMajor_val_one, Shape.rowMajor_val_two]
  show 0 * 4096 + k.val = k.val
  omega

/-- A vector of 14336 as one row. -/
theorem row_14336 {α : Type} (v : S14336.Idx → α) (h : S14336.ShapeCasts S1x14336) (n : Fin 14336) :
    shapeCast S1x14336 v h (ix2 0 n) = v (ix1 n) := by
  refine shapeCast_apply v h _ _ ?_
  rw [Shape.rowMajor_val_one, Shape.rowMajor_val_two]
  show n.val = 0 * 14336 + n.val
  omega

/-! ## What the quantiser is given -/

theorem entry_v0 (c : Dev nD) : inX (V1 m ρ) c = shapeCast S16384x4096 (argX m c) shapeCasts_S8x2048x4096_S16384x4096 := by
  show StableHlo.after hostOps0 (W0 m ρ c) (Proc.devRef .tc main_v0) = _
  after_results
  rfl

theorem entry_v1 (c : Dev nD) : inS (V1 m ρ) c = shapeCast S1x4096 (argS m c) shapeCasts_S4096_S1x4096 := by
  show StableHlo.after hostOps0 (W0 m ρ c) (Proc.devRef .tc main_v1) = _
  after_results
  rfl

/-- Its activations, by token. -/
theorem entry_x (c : Dev nD) (b : Fin 8) (r : Fin 2048) (k : Fin 4096) :
    inX (V1 m ρ) c (ix2 (flat b r) k) = argX m c (ix3 b r k) := by
  rw [entry_v0, join_4096]

/-- Its smoothing vector. -/
theorem entry_s (c : Dev nD) (k : Fin 4096) : inS (V1 m ρ) c (ix2 0 k) = argS m c (ix1 k) := by
  rw [entry_v1, row_4096]

/-! ## What the product is given -/

theorem entry_q (c : Dev nD) : inQ (V3 m ρ) c = codesOf (V1 m ρ) c :=
  (W3_of m ρ c main_v2_0 (by decide)).trans ((W2_arr m ρ c 2).trans (final_codes (V1 m ρ) c))

theorem entry_step (c : Dev nD) : inStep (V3 m ρ) c = stepsOf (V1 m ρ) c :=
  (W3_of m ρ c main_v2_1 (by decide)).trans ((W2_arr m ρ c 3).trans (final_steps (V1 m ρ) c))

theorem entry_w (c : Dev nD) : inW (V3 m ρ) c = argW m c := W3_args m ρ c main_arg2 (by decide)

theorem entry_v3 (c : Dev nD) : inWs (V3 m ρ) c = shapeCast S1x14336 (argT m c) shapeCasts_S14336_S1x14336 := by
  have h : W2 m ρ c (Proc.devRef .tc main_arg3) = argT m c := W2_args m ρ c main_arg3 (by decide)
  rw [← h]
  show StableHlo.after hostOps1 (W2 m ρ c) (Proc.devRef .tc main_v3) = _
  after_results
  rfl

/-- Its column scales. -/
theorem entry_t (c : Dev nD) (n : Fin 14336) : inWs (V3 m ρ) c (ix2 0 n) = argT m c (ix1 n) := by
  rw [entry_v3, row_14336]

/-! ## The results -/

theorem exit_v4 (c : Dev nD) : W4 m ρ c (Proc.devRef .tc main_v4) = outsOf (V3 m ρ) c :=
  (W4_arr m ρ c 4).trans (final_outs (V3 m ρ) c)

theorem exit_amax (c : Dev nD) : W4 m ρ c (Proc.devRef .tc main_v2_2) = amaxEnd (V1 m ρ) c :=
  (W4_of m ρ c main_v2_2 (by decide)).trans
    ((W3_of m ρ c main_v2_2 (by decide)).trans ((W2_arr m ρ c 4).trans (final_amax (V1 m ρ) c)))

theorem exit_codes (c : Dev nD) : W4 m ρ c (Proc.devRef .tc main_v2_0) = codesOf (V1 m ρ) c :=
  (W4_of m ρ c main_v2_0 (by decide)).trans (entry_q m ρ c)

theorem exit_steps (c : Dev nD) : W4 m ρ c (Proc.devRef .tc main_v2_1) = stepsOf (V1 m ρ) c :=
  (W4_of m ρ c main_v2_1 (by decide)).trans (entry_step m ρ c)

/-- The kernel's first result: the outputs. -/
abbrev resY (c : Dev nD) : Vec Ideal S8x2048x14336 .bf16 := W5 m ρ c (Proc.devRef .tc main_v5)
/-- The kernel's second result: the activations' column maximum. -/
abbrev resA (c : Dev nD) : Vec Ideal S4096 .f32 := W5 m ρ c (Proc.devRef .tc main_v6)
/-- The kernel's third result: the codes. -/
abbrev resQ (c : Dev nD) : Vec Ideal S8x2048x4096 .i8 := W5 m ρ c (Proc.devRef .tc main_v7)
/-- The kernel's fourth result: the tokens' steps. -/
abbrev resSc (c : Dev nD) : Vec Ideal S8x2048 .f32 := W5 m ρ c (Proc.devRef .tc main_v8)

theorem res_v5 (c : Dev nD) : resY m ρ c = shapeCast S8x2048x14336 (outsOf (V3 m ρ) c) shapeCasts_S16384x14336_S8x2048x14336 := by
  rw [← exit_v4]
  show StableHlo.after hostOps2 (W4 m ρ c) (Proc.devRef .tc main_v5) = _
  after_results
  rfl

theorem res_v6 (c : Dev nD) : resA m ρ c = shapeCast S4096 (amaxEnd (V1 m ρ) c) shapeCasts_S1x4096_S4096 := by
  rw [← exit_amax]
  show StableHlo.after hostOps2 (W4 m ρ c) (Proc.devRef .tc main_v6) = _
  after_results
  rfl

theorem res_v7 (c : Dev nD) : resQ m ρ c = shapeCast S8x2048x4096 (codesOf (V1 m ρ) c) shapeCasts_S16384x4096_S8x2048x4096 := by
  rw [← exit_codes]
  show StableHlo.after hostOps2 (W4 m ρ c) (Proc.devRef .tc main_v7) = _
  after_results
  rfl

theorem res_v8 (c : Dev nD) : resSc m ρ c = shapeCast S8x2048 (stepsOf (V1 m ρ) c) shapeCasts_S16384x1_S8x2048 := by
  rw [← exit_steps]
  show StableHlo.after hostOps2 (W4 m ρ c) (Proc.devRef .tc main_v8) = _
  after_results
  rfl

/-- The step of token `(b, r)`. -/
theorem steps_at (c : Dev nD) (b : Fin 8) (r : Fin 2048) :
    (stepsOf (V1 m ρ) c : S16384x1.Idx → EReal) (ix2 (flat b r) 0)
      = scaleOf (fun k => argX m c (ix3 b r k)) (fun k => argS m c (ix1 k)) := by
  show scaleOf (fun k => inX (V1 m ρ) c (ix2 (flat b r) k)) (fun k => inS (V1 m ρ) c (ix2 0 k)) = _
  exact congrArg₂ scaleOf (funext fun k => entry_x m ρ c b r k) (funext fun k => entry_s m ρ c k)

/-- The code of token `(b, r)` in column `k`. -/
theorem codes_at (c : Dev nD) (b : Fin 8) (r : Fin 2048) (k : Fin 4096) :
    (codesOf (V1 m ρ) c : S16384x4096.Idx → BitVec 8) (ix2 (flat b r) k)
      = codeOf (fun k => argX m c (ix3 b r k)) (fun k => argS m c (ix1 k)) k := by
  show codeOf (fun k => inX (V1 m ρ) c (ix2 (flat b r) k)) (fun k => inS (V1 m ρ) c (ix2 0 k)) k = _
  exact congrArg₂ (fun x s => codeOf x s k) (funext fun k => entry_x m ρ c b r k) (funext fun k => entry_s m ρ c k)

/-- The kernel's steps. -/
theorem resSc_at (c : Dev nD) (b : Fin 8) (r : Fin 2048) :
    resSc m ρ c (ix2 b r) = scaleOf (fun k => argX m c (ix3 b r k)) (fun k => argS m c (ix1 k)) := by
  rw [res_v8, split_1]
  exact steps_at m ρ c b r

/-- The kernel's codes. -/
theorem resQ_at (c : Dev nD) (b : Fin 8) (r : Fin 2048) (k : Fin 4096) :
    resQ m ρ c (ix3 b r k) = codeOf (fun k => argX m c (ix3 b r k)) (fun k => argS m c (ix1 k)) k := by
  rw [res_v7, split_4096]
  exact codes_at m ρ c b r k

/-- The kernel's column maximum: bounded by `e` exactly when every magnitude of its column is. -/
theorem resA_le (c : Dev nD) (k : Fin 4096) (e : EReal) :
    resA m ρ c (ix1 k) ≤ e ↔ ∀ (b : Fin 8) (r : Fin 2048), mag (argX m c (ix3 b r k)) ≤ e := by
  rw [res_v6, vec_4096, amaxEnd_le]
  constructor
  · intro H b r
    rw [← entry_x m ρ c b r k]
    exact H _
  · intro H i
    have hi := i.isLt
    have e' : i = flat ⟨i.val / 2048, by omega⟩ ⟨i.val % 2048, by omega⟩ :=
      Fin.ext (by show i.val = i.val / 2048 * 2048 + i.val % 2048; omega)
    rw [e', entry_x]
    exact H _ _

/-- The kernel's outputs. -/
theorem resY_at (c : Dev nD) (b : Fin 8) (r : Fin 2048) (n : Fin 14336) :
    resY m ρ c (ix3 b r n)
      = outOf (codeOf (fun k => argX m c (ix3 b r k)) (fun k => argS m c (ix1 k))) (fun k => argW m c (ix2 k n))
          (scaleOf (fun k => argX m c (ix3 b r k)) (fun k => argS m c (ix1 k))) (argT m c (ix1 n)) := by
  rw [res_v5, split_14336]
  show outOf (fun k => inQ (V3 m ρ) c (ix2 (flat b r) k)) (fun k => inW (V3 m ρ) c (ix2 k n))
    (inStep (V3 m ρ) c (ix2 (flat b r) 0)) (inWs (V3 m ρ) c (ix2 0 n)) = _
  rw [entry_t, entry_w, entry_q, entry_step, steps_at, show (fun k => (codesOf (V1 m ρ) c : S16384x4096.Idx → BitVec 8) (ix2 (flat b r) k)) = _ from funext fun k => codes_at m ρ c b r k]

end Cert.KernelIdeal.Value

end
-- ==== Proof.RefMath.lean ====
/- The reference's four results, read at an index as the layer's arithmetic (Math.lean). -/
module

public import proofs.«01_k».proof.Proof.Math

@[expose] public section

noncomputable section

namespace Cert.Layer

open Idealize.ShloMosaic
open Cert.ReferenceIdeal Cert.ReferenceIdeal.Gen

/-- The reference's step for token `(b, r)`. -/
theorem ref_scale (x : Vec Ideal S8x2048x4096 .bf16) (s : Vec Ideal S4096 .f32) (b : Fin 8) (r : Fin 2048) :
    k0_pay3 x s (ix2 b r) = scaleOf (fun k => x (ix3 b r k)) (fun k => s (ix1 k)) := by
  have h : multiReduction (F := Ideal) .maximumf [2] S8x2048 (absf (k0_pay2 x s)) 0xFF800000#32
      reduces_S8x2048x4096_S8x2048 (.inl rfl) rfl (ix2 b r)
        = amaxOf (fun k => x (ix3 b r k)) (fun k => s (ix1 k)) := by
    pointwise [k0_pay2, k0_pay1]
    unfold amaxOf
    rfl
  have hs (v : FVec Ideal S8x2048 .f32) (j : S8x2048.Idx) :
      select (cmpf .oeq v (broadcast S8x2048 (FloatOps.ofBits (F := Ideal) .f32 0x00000000#32)))
          (broadcast S8x2048 (FloatOps.ofBits (F := Ideal) .f32 0x3F800000#32))
          (divf v (broadcast S8x2048 (FloatOps.ofBits (F := Ideal) .f32 0x42FE0000#32))) j
        = if v j = 0 then 1 else Ideal.div (v j) (Ideal.ofBits .f32 0x42FE0000#32) := by
    pointwise
  unfold k0_pay3 scaleOf
  rw [← h]
  exact hs _ _

/-- A per-token value given a trailing unit axis and broadcast along 4096 columns is the token's value. -/
theorem bcast_token (v : S8x2048.Idx → EReal) (h : S8x2048.ShapeCasts S8x2048x1)
    (h' : S8x2048x1.Broadcasts S8x2048x4096) (b : Fin 8) (r : Fin 2048) (n : Fin 4096) :
    broadcastTo S8x2048x4096 (shapeCast S8x2048x1 v h) h' (ix3 b r n) = v (ix2 b r) := by
  refine (broadcastTo_apply _ h' _ (ix3 b r (0 : Fin 1)) fun a => ?_).trans (shapeCast_apply _ h _ _ ?_)
  · match a with
    | ⟨0, _⟩ => rfl
    | ⟨1, _⟩ => rfl
    | ⟨2, _⟩ => rfl
  · rw [Shape.rowMajor_val_two, Shape.rowMajor_val_three]
    show b.val * 2048 + r.val = (b.val * 2048 + r.val) * 1 + 0
    omega

/-- A per-token value given a trailing unit axis and broadcast along 14336 columns is the token's value. -/
theorem bcast_token_out (v : S8x2048.Idx → EReal) (h : S8x2048.ShapeCasts S8x2048x1)
    (h' : S8x2048x1.Broadcasts S8x2048x14336) (b : Fin 8) (r : Fin 2048) (n : Fin 14336) :
    broadcastTo S8x2048x14336 (shapeCast S8x2048x1 v h) h' (ix3 b r n) = v (ix2 b r) := by
  refine (broadcastTo_apply _ h' _ (ix3 b r (0 : Fin 1)) fun a => ?_).trans (shapeCast_apply _ h _ _ ?_)
  · match a with
    | ⟨0, _⟩ => rfl
    | ⟨1, _⟩ => rfl
    | ⟨2, _⟩ => rfl
  · rw [Shape.rowMajor_val_two, Shape.rowMajor_val_three]
    show b.val * 2048 + r.val = (b.val * 2048 + r.val) * 1 + 0
    omega

/-- A smoothed activation of the reference. -/
theorem ref_smooth (x : Vec Ideal S8x2048x4096 .bf16) (s : Vec Ideal S4096 .f32) (b : Fin 8) (r : Fin 2048)
    (k : Fin 4096) : k0_pay2 x s (ix3 b r k) = Ideal.div (x (ix3 b r k)) (s (ix1 k)) := by
  pointwise [k0_pay2, k0_pay1]

/-- A code of the reference from a smoothed activation and its token's step. -/
theorem ref_clip (d b : FVec Ideal S8x2048x4096 .f32) (j : S8x2048x4096.Idx) :
    fptosi 8 (minimumf (broadcast S8x2048x4096 (Scalar.sitofp (F := Ideal) .f32 127#32))
        (maximumf (broadcast S8x2048x4096 (Scalar.sitofp (F := Ideal) .f32 4294967169#32)) (roundeven (divf d b)))) j
      = FloatOps.fptosi (F := Ideal) (φ := .f32) 8
        (min (((127#32 : BitVec 32).toInt : ℝ) : EReal)
          (max (((4294967169#32 : BitVec 32).toInt : ℝ) : EReal)
            (Ideal.liftRound Ideal.roundHalfEven (Ideal.div (d j) (b j))))) := by
  pointwise

/-- The reference's code for token `(b, r)`, column `k`. -/
theorem ref_code (x : Vec Ideal S8x2048x4096 .bf16) (s : Vec Ideal S4096 .f32) (b : Fin 8) (r : Fin 2048)
    (k : Fin 4096) :
    k0_pay4 x s (ix3 b r k) = codeOf (fun k => x (ix3 b r k)) (fun k => s (ix1 k)) k := by
  have h := (bcast_token (k0_pay3 x s) shapeCasts_S8x2048_S8x2048x1 broadcasts_S8x2048x1_S8x2048x4096 b r k).trans
    (ref_scale x s b r)
  unfold k0_pay4 codeOf
  rw [← h, ← ref_smooth]
  exact ref_clip _ _ _

/-- The column maximum of the reference: `c` bounds it exactly when `c` bounds every magnitude of the column. -/
theorem ref_amax_le (x : Vec Ideal S8x2048x4096 .bf16) (k : Fin 4096) (c : EReal) :
    k0_pay6 x (ix1 k) ≤ c ↔ ∀ (b : Fin 8) (r : Fin 2048), mag (x (ix3 b r k)) ≤ c := by
  pointwise [k0_pay6, k0_pay1]
  rw [Finset.fold_max_le, init_bot]
  simp only [bot_le, true_and, Finset.mem_filter, Finset.mem_univ]
  constructor
  · intro h b r
    refine h (ix3 b r k) ?_
    funext a
    match a with
    | ⟨0, _⟩ => rfl
  · intro h i hi
    have h2 : i 2 = k := congrFun hi 0
    rw [eq_ix3 i, h2]
    exact h _ _

/-- The reference's product of codes and weight codes at `(b, r, n)`. -/
theorem ref_dot (q : Vec Ideal S8x2048x4096 .i8) (w : Vec Ideal S4096x14336 .i8)
    (b : Fin 8) (r : Fin 2048) (n : Fin 14336) :
    matmul (F := Ideal) dot_S8x2048x4096_S4096x14336_S8x2048x14336_2_0_01_1_n_n none (sitofp .bf16 q : FVec Ideal S8x2048x4096 .bf16)
        (sitofp .bf16 w : FVec Ideal S4096x14336 .bf16) (constant S8x2048x14336 .f32 0x00000000#32) (ix3 b r n)
      = ∑ k : Fin 4096, FloatOps.sitofp (F := Ideal) .bf16 (q (ix3 b r k)) * FloatOps.sitofp (F := Ideal) .bf16 (w (ix2 k n)) := by
  pointwise [dot_S8x2048x4096_S4096x14336_S8x2048x14336_2_0_01_1_n_n]

/-- The reference's per-column scales broadcast over the tokens. -/
theorem ref_wscale (t : Vec Ideal S14336 .f32) (b : Fin 8) (r : Fin 2048) (n : Fin 14336) :
    broadcastTo S8x2048x14336 (shapeCast S1x1x14336 t shapeCasts_S14336_S1x1x14336) broadcasts_S1x1x14336_S8x2048x14336
      (ix3 b r n) = t (ix1 n) := by
  pointwise

/-- The reference's output for token `(b, r)`, column `n`. -/
theorem ref_out (x : Vec Ideal S8x2048x4096 .bf16) (s : Vec Ideal S4096 .f32) (w : Vec Ideal S4096x14336 .i8)
    (t : Vec Ideal S14336 .f32) (b : Fin 8) (r : Fin 2048) (n : Fin 14336) :
    k0_pay5 x s w t (ix3 b r n)
      = outOf (codeOf (fun k => x (ix3 b r k)) (fun k => s (ix1 k))) (fun k => w (ix2 k n))
          (scaleOf (fun k => x (ix3 b r k)) (fun k => s (ix1 k))) (t (ix1 n)) := by
  have hm (p u v : FVec Ideal S8x2048x14336 .f32) (j : S8x2048x14336.Idx) :
      truncf .bf16 (mulf (mulf p u) v) bitsLt_bf16_f32 j = p j * u j * v j := by
    pointwise
  have hsc := (bcast_token_out (k0_pay3 x s) shapeCasts_S8x2048_S8x2048x1 broadcasts_S8x2048x1_S8x2048x14336 b r n).trans
    (ref_scale x s b r)
  have hq : codeOf (fun k => x (ix3 b r k)) (fun k => s (ix1 k)) = fun k => k0_pay4 x s (ix3 b r k) :=
    funext fun k => (ref_code x s b r k).symm
  unfold k0_pay5 outOf
  rw [hq, ← ref_dot (k0_pay4 x s) w b r n, ← hsc, ← ref_wscale t b r n]
  exact hm _ _ _ _

end Cert.Layer

end
-- ==== Proof.Run.lean ====
/- The kernel's run, with its results named. The generated frame proof runs `@main` as five segments
   (reshape the inputs, quantise, reshape the weight scales, multiply, reshape the results) and follows
   what every buffer holds through them: `W0`, …, `W5`. It states only that the arguments end unchanged.
   `run` is the same run, stated with the four results as well: each ends at what `W5` holds there. -/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

-- the run's implicit arguments are found by unifying its conclusion with this one, which takes unfolding
-- plain definitions in a metavariable's type
set_option backward.isDefEq.respectTransparency.types false in
/-- From any memory with zero counters, every weakly fair execution of the kernel's `@main` terminates, and
    at its end the four results hold what the fold through `@main` (`W5`) holds there and the four arguments
    are as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)),
       h c _ (mem_uc main_v6 (by decide)),
       h c _ (mem_uc main_v7 (by decide)),
       h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Value

end
-- ==== Proof.Algebraic.lean ====
/- The two programs agree at the extended reals: the kernel's four results are the reference's. Codes, steps
   and outputs are the same function of the arguments at every index; the column maximum has the same upper
   bounds, so it is the same number. -/
module

public import proofs.«01_k».proof.Defs
public import proofs.«01_k».proof.Proof.Results
public import proofs.«01_k».proof.Proof.RefMath
public import proofs.«01_k».proof.Proof.Run
public import proofs.«01_k».proof.Proof.Gen.KernelIdeal
public import proofs.«01_k».proof.Proof.Gen.ReferenceIdeal
public import proofs.«01_k».proof.Proof.Gen.ReferenceIdeal.Value

@[expose] public section

noncomputable section

namespace Cert.Layer

open Idealize.ShloMosaic Idealize.ShloMosaic.TcCoe Idealize.SL.Sem
open Cert.KernelIdeal.Value

variable (m : (ℓ : Loc Cert.KernelIdeal.nD Cert.KernelIdeal.τ Cert.KernelIdeal.sig) → Buf (Elt Ideal) ℓ)
  (ρ : Dev Cert.KernelIdeal.nD → PrngReg)

/-- The outputs agree. -/
theorem agree_y (c : Dev Cert.KernelIdeal.nD) :
    resY m ρ c = Cert.ReferenceIdeal.Gen.k0_pay5 (argX m c) (argS m c) (argW m c) (argT m c) := by
  funext j
  obtain ⟨b, r, n, rfl⟩ : ∃ (b : Fin 8) (r : Fin 2048) (n : Fin 14336), j = ix3 b r n := ⟨_, _, _, eq_ix3 j⟩
  exact (resY_at m ρ c b r n).trans (ref_out _ _ _ _ b r n).symm

/-- The column maxima agree. -/
theorem agree_a (c : Dev Cert.KernelIdeal.nD) :
    resA m ρ c = Cert.ReferenceIdeal.Gen.k0_pay6 (argX m c) := by
  funext j
  obtain ⟨k, rfl⟩ : ∃ k : Fin 4096, j = ix1 k := ⟨_, eq_ix1 j⟩
  exact eq_of_forall_ge_iff fun e => (resA_le m ρ c k e).trans (ref_amax_le _ k e).symm

/-- The codes agree. -/
theorem agree_q (c : Dev Cert.KernelIdeal.nD) :
    resQ m ρ c = Cert.ReferenceIdeal.Gen.k0_pay4 (argX m c) (argS m c) := by
  funext j
  obtain ⟨b, r, k, rfl⟩ : ∃ (b : Fin 8) (r : Fin 2048) (k : Fin 4096), j = ix3 b r k := ⟨_, _, _, eq_ix3 j⟩
  exact (resQ_at m ρ c b r k).trans (ref_code _ _ b r k).symm

/-- The tokens' steps agree. -/
theorem agree_sc (c : Dev Cert.KernelIdeal.nD) :
    resSc m ρ c = Cert.ReferenceIdeal.Gen.k0_pay3 (argX m c) (argS m c) := by
  funext j
  obtain ⟨b, r, rfl⟩ : ∃ (b : Fin 8) (r : Fin 2048), j = ix2 b r := ⟨_, _, eq_ix2 j⟩
  exact (resSc_at m ρ c b r).trans (ref_scale _ _ b r).symm

/-- From memories that agree on the arguments, both programs run to the end with equal results and unchanged
    arguments. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => resY m g c, fun c => resA m g c, fun c => resQ m g c, fun c => resSc m g c,
    Cert.KernelIdeal.Value.run m g, ?_⟩
  refine (θ_run _ _ _).mono (fun r h c => ?_) (Cert.ReferenceIdeal.Value.run m' g')
  obtain ⟨h0, h1, h2, h3, ha⟩ := h c
  obtain ⟨e0, e1, e2, e3⟩ := hargs c
  rw [e0, e1, e2, e3] at h0
  rw [e0] at h1
  rw [e0, e1] at h2 h3
  exact ⟨h0.trans (agree_y m g c).symm, h1.trans (agree_a m g c).symm, h2.trans (agree_q m g c).symm,
    h3.trans (agree_sc m g c).symm, ha⟩

end Cert.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Layer.algebraic⟩

end Cert.Proof

end
